-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x4096x1024 : Shape := ⟨3, ![8, 4096, 1024]⟩
abbrev S1x2048x1024 : Shape := ⟨3, ![1, 2048, 1024]⟩
abbrev S1x1024 : Shape := ⟨2, ![1, 1024]⟩
abbrev S2048x1024 : Shape := ⟨2, ![2048, 1024]⟩
abbrev S128x128 : Shape := ⟨2, ![128, 128]⟩
abbrev S128x1024 : Shape := ⟨2, ![128, 1024]⟩
abbrev S1x128x1024 : Shape := ⟨3, ![1, 128, 1024]⟩

abbrev nBuf : Space → Nat
  | .hbm => 2
  | .vmem => 5
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .local _ .vmem, ⟨0, _⟩ => ⟨S1x2048x1024, .f32⟩
  | .local _ .vmem, ⟨1, _⟩ => ⟨S1x2048x1024, .f32⟩
  | .local _ .vmem, ⟨2, _⟩ => ⟨S1x2048x1024, .f32⟩
  | .local _ .vmem, ⟨3, _⟩ => ⟨S1x2048x1024, .f32⟩
  | .local _ .vmem, ⟨4, _⟩ => ⟨S1x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== ReferenceIdeal.lean ====
abbrev S8x4096x1024 : Shape := ⟨3, ![8, 4096, 1024]⟩
abbrev S4096 : Shape := ⟨1, ![4096]⟩
abbrev S_ : Shape := ⟨0, ![]⟩
abbrev S1x4096x1 : Shape := ⟨3, ![1, 4096, 1]⟩

abbrev nBuf : Space → Nat
  | .hbm => 11
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S4096, .f32⟩
  | .hbm, ⟨2, _⟩ => ⟨S_, .f32⟩
  | .hbm, ⟨3, _⟩ => ⟨S4096, .f32⟩
  | .hbm, ⟨4, _⟩ => ⟨S4096, .f32⟩
  | .hbm, ⟨5, _⟩ => ⟨S1x4096x1, .f32⟩
  | .hbm, ⟨6, _⟩ => ⟨S_, .f32⟩
  | .hbm, ⟨7, _⟩ => ⟨S_, .f32⟩
  | .hbm, ⟨8, _⟩ => ⟨S8x4096x1024, .f32⟩
  | .hbm, ⟨9, _⟩ => ⟨S8x4096x1024, .f32⟩
  | .hbm, ⟨10, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_call0_cst : Ref sig .tc := ⟨.hbm, 6, rfl⟩
abbrev main_call0_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Proof.Chunk.lean ====
/-
  The sixteen chunks of one block.

  A grid point holds a block of 2048 rows and 1024 columns. The kernel walks it in sixteen chunks of 128 rows: each
  chunk is multiplied from the left by a lower triangular matrix of ones, and the last row of the chunk before (for the
  first chunk: the carry) is added to every row. This module says what the running totals are: row `r` of chunk `n` is
  the carry plus the sum of the block's rows up to and including row `128 * n + r`.
-/
module

public import proofs.«01_k».proof.Proof.Gen.KernelIdeal.Value
public import Idealize.ShloMosaic.Lib.Pointwise

@[expose] public section

noncomputable section

namespace Cert.KernelIdeal.Chunk

open Cert.KernelIdeal Cert.KernelIdeal.Gen Idealize.ShloMosaic Idealize.ShloMosaic.TcCoe Idealize.SL.Sem

/-! ## The kernel's chunks, as one recursion -/

section Terms

variable {F : FTy → Type} [FloatOps F]

/-- Every chunk of 128 rows lies in the block. -/
theorem chunkSlices (n : Fin 16) : S2048x1024.Slices ![128 * n.val, 0] S128x1024 := by
  revert n; decide

/-- The last row of a chunk's running totals. -/
def lastRow (v : FVec F S128x1024 .f32) : FVec F S1x1024 .f32 :=
  extractStridedSlice S1x1024 ![127, 0] v slices_S128x1024_o127_0_S1x1024

/-- One chunk's running totals: the triangular matrix times the chunk, plus the row `c` on every row. -/
def step (n : Fin 16) (X : FVec F S1x2048x1024 .f32) (c : FVec F S1x1024 .f32) : FVec F S128x1024 .f32 :=
  addf (matmul dot_S128x128_S128x1024_S128x1024_1_0_0_1_n_n none k0_pay7
      (extractStridedSlice S128x1024 ![128 * n.val, 0] (k0_pay6 X) (chunkSlices n)) (constant S128x1024 .f32 0x00000000#32))
    (broadcastTo S128x1024 c broadcasts_S1x1024_S128x1024)

/-- The running totals of chunk `n`, from the carry `c` into the block: each chunk starts from the last row before it. -/
def total (X : FVec F S1x2048x1024 .f32) (c : FVec F S1x1024 .f32) : (n : ℕ) → n < 16 → FVec F S128x1024 .f32
  | 0, h => step ⟨0, h⟩ X c
  | n + 1, h => step ⟨n + 1, h⟩ X (lastRow (total X c n (Nat.lt_of_succ_lt h)))

/-- What the kernel stores for chunk `n`: the running totals over the row numbers counted from one, where the block's
    first row is row `2048 * arg` of the sequence. -/
def mean (arg : ℕ) (n : Fin 16) (v : FVec F S128x1024 .f32) : FVec F S1x128x1024 .f32 :=
  shapeCast S1x128x1024
    (divf v (sitofp .f32 (addi (iota .tc S128x1024 32 [0] iota_S128x1024_d0_w32)
      (broadcast S128x1024
        (Scalar.addi (Scalar.addi (Scalar.muli (BitVec.ofNat 32 arg) 2048#32) (BitVec.ofNat 32 (128 * n.val))) 1#32)))))
    shapeCasts_S128x1024_S1x128x1024

end Terms

/-! ## Their values -/

/-- Column `l` of the block at row `j`, and zero from the block's end on: the form in which the sums are stated. -/
def row (X : FVec Ideal S1x2048x1024 .f32) (l : Fin 1024) (j : ℕ) : EReal :=
  if h : j < 2048 then X (ix3 0 ⟨j, h⟩ l) else 0

/-- The kernel's triangular matrix holds one on and below the diagonal and zero above it. -/
theorem tri_apply (r k : Fin 128) :
    (k0_pay7 : FVec Ideal S128x128 .f32) (ix2 r k) = if k.val ≤ r.val then (1 : EReal) else 0 := by
  have hr : (BitVec.ofNat 32 r.val).toInt = (r.val : ℤ) := WordCmp.toInt_ofNat_of_lt (by omega)
  have hk : (BitVec.ofNat 32 k.val).toInt = (k.val : ℤ) := WordCmp.toInt_ofNat_of_lt (by omega)
  pointwise [k0_pay7]
  rw [WordCmp.cmpi_sge_eq, hr, hk]
  by_cases h : k.val ≤ r.val
  · rw [if_pos h, decide_eq_true (by exact_mod_cast h)]; rfl
  · rw [if_neg h, decide_eq_false (by exact_mod_cast h)]; rfl

/-- The chunk `n` of the block, at an index. -/
theorem chunk_apply (n : Fin 16) (X : FVec Ideal S1x2048x1024 .f32) (k : Fin 128) (l : Fin 1024) :
    extractStridedSlice S128x1024 ![128 * n.val, 0] (k0_pay6 (F := Ideal) X) (chunkSlices n) (ix2 k l) = row X l (128 * n.val + k.val) := by
  have hlt : 128 * n.val + k.val < 2048 := by omega
  rw [row, dif_pos hlt]
  pointwise [k0_pay6]

/-- A step at an index: the row added, plus the chunk's rows up to and including row `r`. -/
theorem step_apply (n : Fin 16) (X : FVec Ideal S1x2048x1024 .f32) (c : FVec Ideal S1x1024 .f32) (r : Fin 128) (l : Fin 1024) :
    step n X c (ix2 r l) = c (ix2 0 l) + ∑ k ∈ Finset.range (r.val + 1), row X l (128 * n.val + k) := by
  have hsum : ∑ k : Fin 128, (k0_pay7 : FVec Ideal S128x128 .f32) (ix2 r k) * row X l (128 * n.val + k.val)
      = ∑ k ∈ Finset.range (r.val + 1), row X l (128 * n.val + k) := by
    simp only [tri_apply, ite_mul, one_mul, zero_mul]
    rw [Fin.sum_univ_eq_sum_range (fun k => if k ≤ r.val then row X l (128 * n.val + k) else 0) 128, ← Finset.sum_filter]
    refine Finset.sum_congr (Finset.ext fun k => ?_) fun _ _ => rfl
    simp only [Finset.mem_filter, Finset.mem_range]
    omega
  unfold step
  generalize hT : (k0_pay7 : FVec Ideal S128x128 .f32) = T at hsum
  generalize hC : extractStridedSlice S128x1024 ![128 * n.val, 0] (k0_pay6 (F := Ideal) X) (chunkSlices n) = C
  have hCv : ∀ k : Fin 128, C (ix2 k l) = row X l (128 * n.val + k.val) := fun k => by rw [← hC]; exact chunk_apply n X k l
  pointwise
  simp only [hCv]
  rw [hsum, add_comm]

/-- The row number of row `r` of chunk `n`, counted from one: the words do not overflow, so it is the natural number. -/
theorem number_toInt (arg : ℕ) (harg : arg < 2) (n : Fin 16) (r : Fin 128) :
    (BitVec.ofNat 32 r.val + (BitVec.ofNat 32 arg * 2048#32 + BitVec.ofNat 32 (128 * n.val) + 1#32)).toInt
      = ((2048 * arg + 128 * n.val + r.val + 1 : ℕ) : ℤ) := by
  rw [← BitVec.ofNat_mul, ← BitVec.ofNat_add, ← BitVec.ofNat_add, ← BitVec.ofNat_add, WordCmp.toInt_ofNat_of_lt (by omega)]
  congr 1
  omega

/-- What is stored for chunk `n`, at an index: the running total over the row number counted from one. -/
theorem mean_apply (arg : ℕ) (harg : arg < 2) (n : Fin 16) (v : FVec Ideal S128x1024 .f32) (r : Fin 128) (l : Fin 1024) :
    mean arg n v (ix3 0 r l) = Ideal.div (v (ix2 r l)) (((2048 * arg + 128 * n.val + r.val + 1 : ℕ) : ℝ) : EReal) := by
  have h := number_toInt arg harg n r
  pointwise [mean]
  show Ideal.div _ ((((BitVec.ofNat 32 r.val
    + (BitVec.ofNat 32 arg * 2048#32 + BitVec.ofNat 32 (128 * n.val) + 1#32)).toInt : ℤ) : ℝ) : EReal) = _
  rw [h, Int.cast_natCast]

/-- THE RUNNING TOTALS: row `r` of chunk `n` is the carry plus the block's rows up to and including row `128 * n + r`. -/
theorem total_apply (X : FVec Ideal S1x2048x1024 .f32) (c : FVec Ideal S1x1024 .f32) (l : Fin 1024) :
    ∀ (n : ℕ) (h : n < 16) (r : Fin 128),
      total X c n h (ix2 r l) = c (ix2 0 l) + ∑ j ∈ Finset.range (128 * n + r.val + 1), row X l j := by
  intro n
  induction n with
  | zero =>
    intro h r
    rw [total, step_apply]
    simp only [Nat.mul_zero, Nat.zero_add]
  | succ n ih =>
    intro h r
    have hlast : lastRow (total X c n (Nat.lt_of_succ_lt h)) (ix2 0 l) = c (ix2 0 l) + ∑ j ∈ Finset.range (128 * (n + 1)), row X l j := by
      have := ih (Nat.lt_of_succ_lt h) 127
      rw [show 128 * n + (127 : Fin 128).val + 1 = 128 * (n + 1) from by simp; ring] at this
      rw [← this, lastRow]
      pointwise
    rw [total, step_apply, hlast, add_assoc, Nat.add_assoc (128 * (n + 1)) r.val 1]
    exact congrArg _ (Finset.sum_range_add (row X l) _ _).symm

end Cert.KernelIdeal.Chunk

end
-- ==== Proof.Block.lean ====
/-
  What one grid point computes.

  The generated run of the kernel's body is a list of stores, sixteen into the output block and the last one into the
  carry. Here each store is named by the recursion of `Chunk` and the block is read back at an index: the element at row
  `j` is the carry plus the sum of the block's rows up to and including `j`, over the row's number counted from one; the
  carry left for the next point is the carry plus the sum of all the block's rows.
-/
module

public import proofs.«01_k».proof.Proof.Chunk
public import Idealize.ShloMosaic.Lib.Pipeline.ValueKit.Tiles

@[expose] public section

noncomputable section

namespace Cert.KernelIdeal.Block

open Cert.KernelIdeal Cert.KernelIdeal.Gen Cert.KernelIdeal.Chunk Idealize.ShloMosaic Idealize.ShloMosaic.TcCoe Idealize.SL.Sem

/-- The offset of a whole rank-2 buffer. -/
theorem zero2 : (![0, 0] : Fin 2 → Nat) = fun _ => 0 := funext fun a => by fin_cases a <;> rfl

/-- The offset of a whole rank-3 buffer. -/
theorem zero3 : (![0, 0, 0] : Fin 3 → Nat) = fun _ => 0 := funext fun a => by fin_cases a <;> rfl

section Terms

variable {F : FTy → Type} [FloatOps F]

/-! ## The generated payloads in terms of the running totals -/

/-- The payload cut after chunk 1. -/
theorem total_1 (X : FVec F S1x2048x1024 .f32) (c : FVec F S1x1024 .f32) :
    k0_pay10 X c = total X c 1 (by decide) := rfl

/-- The payload cut between chunk 3's last row and the sum of chunk 4. -/
theorem lastRow_3 (X : FVec F S1x2048x1024 .f32) (c : FVec F S1x1024 .f32) :
    k0_pay17 (k0_pay6 X) k0_pay7 (total X c 1 (by decide)) = lastRow (total X c 3 (by decide)) := rfl

/-- The payload cut after chunk 6. -/
theorem total_6 (X : FVec F S1x2048x1024 .f32) (c : FVec F S1x1024 .f32) :
    k0_pay23 (k0_pay6 X) k0_pay7 (lastRow (total X c 3 (by decide))) (k0_pay18 (k0_pay6 X) k0_pay7)
      = total X c 6 (by decide) := rfl

/-- The payload cut after chunk 9. -/
theorem total_9 (X : FVec F S1x2048x1024 .f32) (c : FVec F S1x1024 .f32) :
    k0_pay30 (k0_pay6 X) k0_pay7 (total X c 6 (by decide)) = total X c 9 (by decide) := rfl

/-- The payload cut after chunk 11. -/
theorem total_11 (X : FVec F S1x2048x1024 .f32) (c : FVec F S1x1024 .f32) :
    k0_pay34 (k0_pay6 X) k0_pay7 (total X c 9 (by decide)) = total X c 11 (by decide) := rfl

/-- The payload cut after chunk 14. -/
theorem total_14 (X : FVec F S1x2048x1024 .f32) (c : FVec F S1x1024 .f32) :
    k0_pay40 (k0_pay6 X) k0_pay7 (total X c 11 (by decide)) = total X c 14 (by decide) := rfl

/-- The carry stored at the end: the last row of chunk 15. -/
theorem carry_15 (X : FVec F S1x2048x1024 .f32) (c : FVec F S1x1024 .f32) :
    k0_pay4 (k0_pay6 X) k0_pay7 (total X c 14 (by decide)) = lastRow (total X c 15 (by decide)) := shapeCast_self _ _

/-! ## The stores into the output block -/

/-- Chunk `n`'s tile lies in the block. -/
theorem tileInb (n : Fin 16) (a : Fin 3) : (![0, 128 * n.val, 0] : Fin 3 → ℕ) a + (![1, 128, 1024] : Fin 3 → ℕ) a ≤ S1x2048x1024.size a := by
  revert n a; decide

/-- The sixteen stores of a point, the last one first, from the carry `c` into the block. -/
def stores (arg : ℕ) (X : FVec F S1x2048x1024 .f32) (c : FVec F S1x1024 .f32) : List (View.Piece (Elt F) S1x2048x1024 .f32) :=
  List.ofFn fun k : Fin 16 =>
    ⟨Rect.unit ![0, 128 * k.rev.val, 0] ![1, 128, 1024] (tileInb k.rev), mean arg k.rev (total X c k.rev.val k.rev.isLt)⟩

/-- A point that resets the carry leaves in its output block the sixteen stores, from a carry of zero. -/
theorem out_A (c : Dev nD) (i : grid0.Coords) (a1 : Memref sig .tc .vmem S1x2048x1024 .f32) (h1 : a1.IsWhole)
    (a2 : Memref sig .tc .vmem S1x2048x1024 .f32) (h2 : a2.IsWhole) (a3 : Memref sig .tc .vmem S1x1024 .f32) (h3 : a3.IsWhole)
    (hc : cond0_0 i) (X : Vec F S1x2048x1024 .f32) :
    out0_A_1 c i a1 h1 a2 h2 a3 h3 hc X = View.canon (stores (i 1).val X k0_pay5) := by
  unfold out0_A_1
  rw [View.read_writes_eq_canon _ _ _ (cover0_A_1 c i a1 h1 a2 h2 a3 h3 hc X)]
  unfold kernelRun0_A
  dsimp only
  sl_unfold_words
  simp only [View.readAt_eq_ld, h1.read_unread, View.readCov_unit_zero (S := S1x1024) _ zero2,
    View.ld_unit_zero (S := S1x1024) zero2, View.ld_unit_zero (S := S1x2048x1024) zero3,
    total_1, lastRow_3, total_6, total_9, total_11, total_14]
  rfl

/-- Any other point leaves the sixteen stores from the carry it was handed. -/
theorem out_B (c : Dev nD) (i : grid0.Coords) (a1 : Memref sig .tc .vmem S1x2048x1024 .f32) (h1 : a1.IsWhole)
    (a2 : Memref sig .tc .vmem S1x2048x1024 .f32) (h2 : a2.IsWhole) (a3 : Memref sig .tc .vmem S1x1024 .f32) (h3 : a3.IsWhole)
    (hc : ¬cond0_0 i) (X : Vec F S1x2048x1024 .f32) (xs : Vec F S1x1024 .f32) :
    out0_B_1 c i a1 h1 a2 h2 a3 h3 hc X xs = View.canon (stores (i 1).val X xs) := by
  unfold out0_B_1
  rw [View.read_writes_eq_canon _ _ _ (cover0_B_1 c i a1 h1 a2 h2 a3 h3 hc X xs)]
  unfold kernelRun0_B
  dsimp only
  sl_unfold_words
  simp only [View.readAt_eq_ld, h1.read_unread, h3.read_unread, View.readCov_unit_zero (S := S1x1024) _ zero2,
    View.ld_unit_zero (S := S1x1024) zero2, View.ld_unit_zero (S := S1x2048x1024) zero3,
    total_1, lastRow_3, total_6, total_9, total_11, total_14]
  rfl

/-- A point that resets the carry leaves the last running total as the carry. -/
theorem sout_A (c : Dev nD) (i : grid0.Coords) (a1 : Memref sig .tc .vmem S1x2048x1024 .f32) (h1 : a1.IsWhole)
    (a2 : Memref sig .tc .vmem S1x2048x1024 .f32) (h2 : a2.IsWhole) (a3 : Memref sig .tc .vmem S1x1024 .f32) (h3 : a3.IsWhole)
    (hc : cond0_0 i) (X : Vec F S1x2048x1024 .f32) :
    sout0_A_0 c i a1 h1 a2 h2 a3 h3 hc X = lastRow (total X k0_pay5 15 (by decide)) := by
  unfold sout0_A_0
  rw [View.read_writes_eq_canon _ _ _ (scover0_A_0 c i a1 h1 a2 h2 a3 h3 hc X)]
  unfold kernelRun0_A
  dsimp only
  sl_unfold_words
  rw [View.canon_cons_unit_zero (S := S1x1024) zero2]
  simp only [View.readAt_eq_ld, h1.read_unread, View.readCov_unit_zero (S := S1x1024) _ zero2,
    View.ld_unit_zero (S := S1x1024) zero2, View.ld_unit_zero (S := S1x2048x1024) zero3,
    total_1, lastRow_3, total_6, total_9, total_11, total_14, carry_15]

/-- Any other point leaves the last running total as the carry, too. -/
theorem sout_B (c : Dev nD) (i : grid0.Coords) (a1 : Memref sig .tc .vmem S1x2048x1024 .f32) (h1 : a1.IsWhole)
    (a2 : Memref sig .tc .vmem S1x2048x1024 .f32) (h2 : a2.IsWhole) (a3 : Memref sig .tc .vmem S1x1024 .f32) (h3 : a3.IsWhole)
    (hc : ¬cond0_0 i) (X : Vec F S1x2048x1024 .f32) (xs : Vec F S1x1024 .f32) :
    sout0_B_0 c i a1 h1 a2 h2 a3 h3 hc X xs = lastRow (total X xs 15 (by decide)) := by
  unfold sout0_B_0
  rw [View.read_writes_eq_canon _ _ _ (scover0_B_0 c i a1 h1 a2 h2 a3 h3 hc X xs)]
  unfold kernelRun0_B
  dsimp only
  sl_unfold_words
  rw [View.canon_cons_unit_zero (S := S1x1024) zero2]
  simp only [View.readAt_eq_ld, h1.read_unread, h3.read_unread, View.readCov_unit_zero (S := S1x1024) _ zero2,
    View.ld_unit_zero (S := S1x1024) zero2, View.ld_unit_zero (S := S1x2048x1024) zero3,
    total_1, lastRow_3, total_6, total_9, total_11, total_14, carry_15]

end Terms

/-! ## Their values -/

/-- The reset carry is zero. -/
theorem reset_apply (l : Fin 1024) : (k0_pay5 : FVec Ideal S1x1024 .f32) (ix2 0 l) = 0 := by
  pointwise [k0_pay5]

/-- Sixteen tiles of 128 rows, read back at row `j`: the tile that holds `j`, at `j`'s place in it, when every tile has
    the value `v` wherever it holds `j`. -/
theorem tiles_apply (P : Fin 16 → FVec Ideal S1x128x1024 .f32) (j : Fin 2048) (l : Fin 1024) (v : EReal)
    (h : ∀ (n : Fin 16) (r : Fin 128), j.val = 128 * n.val + r.val → P n (ix3 0 r l) = v) :
    View.canon (List.ofFn fun k : Fin 16 =>
      (⟨Rect.unit ![0, 128 * k.rev.val, 0] ![1, 128, 1024] (tileInb k.rev), P k.rev⟩ : View.Piece (Elt Ideal) S1x2048x1024 .f32))
      (ix3 0 j l) = v := by
  refine View.canon_ofFn_unit_eq_of_forall (Val := Elt Ideal) (S := S1x2048x1024) (e := .f32) (fun k : Fin 16 => ![0, 128 * k.rev.val, 0]) ![1, 128, 1024]
    (fun k => tileInb k.rev) (fun k => P k.rev) (ix3 0 j l) v ?_ ?_
  · have hj : j.val / 128 < 16 := by omega
    refine ⟨(⟨j.val / 128, hj⟩ : Fin 16).rev, fun a => ?_⟩
    rw [Fin.rev_rev]
    fin_cases a
    · exact ⟨Nat.zero_le _, Nat.zero_lt_one⟩
    · show 128 * (j.val / 128) ≤ j.val ∧ j.val < 128 * (j.val / 128) + 128
      omega
    · exact ⟨Nat.zero_le _, by show l.val < 0 + 1024; omega⟩
  · intro k x hx
    have e1 : j.val = 128 * k.rev.val + (x 1).val := hx 1
    have e2 : l.val = 0 + (x 2).val := hx 2
    have hl : l = x 2 := Fin.ext (by omega)
    have h0 : x 0 = (0 : Fin 1) := Subsingleton.elim (α := Fin 1) _ _
    rw [eq_ix3 x, h0, ← hl]
    exact h k.rev (x 1) e1

/-- THE OUTPUT BLOCK at row `j`: the carry plus the block's rows up to and including `j`, over the row's number. -/
theorem stores_apply (arg : ℕ) (harg : arg < 2) (X : FVec Ideal S1x2048x1024 .f32) (c : FVec Ideal S1x1024 .f32)
    (j : Fin 2048) (l : Fin 1024) :
    View.canon (stores arg X c) (ix3 0 j l)
      = Ideal.div (c (ix2 0 l) + ∑ k ∈ Finset.range (j.val + 1), row X l k) (((2048 * arg + j.val + 1 : ℕ) : ℝ) : EReal) := by
  refine tiles_apply (fun n => mean arg n (total X c n.val n.isLt)) j l _ fun n r hj => ?_
  refine (mean_apply arg harg n _ r l).trans ?_
  rw [total_apply, hj, Nat.add_assoc (2048 * arg)]

/-- THE CARRY left behind: the carry plus all rows of the block. -/
theorem carry_apply (X : FVec Ideal S1x2048x1024 .f32) (c : FVec Ideal S1x1024 .f32) (l : Fin 1024) :
    lastRow (total X c 15 (by decide)) (ix2 0 l) = c (ix2 0 l) + ∑ k ∈ Finset.range 2048, row X l k := by
  have h := total_apply X c l 15 (by decide) 127
  rw [show 128 * 15 + (127 : Fin 128).val + 1 = 2048 from rfl] at h
  rw [← h, lastRow]
  pointwise

end Cert.KernelIdeal.Block

end
-- ==== Proof.Array.lean ====
/-
  What the kernel's result array holds.

  Grid point `t` works on batch entry `t / 2` and on the first (`t` even) or the second (`t` odd) half of its 4096 rows.
  An even point starts from a carry of zero; an odd one from the carry of the point before, the sum of the first half's
  rows. So the array holds, at batch entry `b`, row `s` and column `l`, the sum of the argument's rows up to and
  including `s`, over `s + 1`.
-/
module

public import proofs.«01_k».proof.Proof.Block

@[expose] public section

noncomputable section

namespace Cert.KernelIdeal.Array

open Cert.KernelIdeal Cert.KernelIdeal.Gen Cert.KernelIdeal.Value Cert.KernelIdeal.Chunk Cert.KernelIdeal.Block
open Idealize.ShloMosaic Idealize.ShloMosaic.TcCoe Idealize.SL.Sem

/-- Column `l` of batch entry `b` at row `j`, and zero from the array's end on. -/
def col (x : FVec Ideal S8x4096x1024 .f32) (b : Fin 8) (l : Fin 1024) (j : ℕ) : EReal :=
  if h : j < 4096 then x (ix3 b ⟨j, h⟩ l) else 0

variable (m : (ℓ : Loc nD τ sig) → Buf (Elt Ideal) ℓ)

/-- A point's place in the sequence: its parity. -/
theorem coord_one (t : Fin cfg0.N) : ((grid0.coords t) 1).val = t.val % 2 := by
  refine (Pipeline.Grid.coords_val (G := grid0) t 1 (S := 1) (by decide) rfl).trans ?_
  show t.val / 1 % 2 = t.val % 2
  rw [Nat.div_one]

/-- The block index of the argument's window at a point. -/
theorem window_index (t : Fin cfg0.N) :
    win0_0.index t 0 = t.val / 2 ∧ win0_0.index t 1 = t.val % 2 ∧ win0_0.index t 2 = 0 := by
  revert t
  exact (by decide +kernel : ∀ t : Fin grid0.N, win0_0.index t 0 = t.val / 2 ∧ win0_0.index t 1 = t.val % 2 ∧ win0_0.index t 2 = 0)

/-- The block a point loads: batch entry `t / 2`, rows from `2048 * (t % 2)` on. -/
theorem block_row (c : Dev nD) (t : Fin cfg0.N) (b : Fin 8) (hb : b.val = t.val / 2) (l : Fin 1024) (j : ℕ) (hj : j < 2048) :
    row (iblk m c 0 t) l j = col (m (c.tc.loc main_arg0)) b l (2048 * (t.val % 2) + j) := by
  obtain ⟨i0, i1, i2⟩ := window_index t
  have hlt : 2048 * (t.val % 2) + j < 4096 := by omega
  rw [row, dif_pos hj, col, dif_pos hlt]
  unfold iblk
  rw [View.read_apply]
  show V m c main_arg0 _ = m (c.tc.loc main_arg0) _
  unfold V
  congr 1
  funext a
  apply Fin.ext
  match a with
  | ⟨0, _⟩ => show win0_0.index t 0 * 1 + 1 * 0 = b.val; rw [i0, hb]; omega
  | ⟨1, _⟩ => show win0_0.index t 1 * 2048 + 1 * j = 2048 * (t.val % 2) + j; rw [i1]; omega
  | ⟨2, _⟩ => show win0_0.index t 2 * 1024 + 1 * l.val = l.val; rw [i2]; omega

/-- The rows of a point's block up to `n`, summed: the argument's rows from the block's first on. -/
theorem block_sum (c : Dev nD) (t : Fin cfg0.N) (b : Fin 8) (hb : b.val = t.val / 2) (l : Fin 1024) (n : ℕ) (hn : n ≤ 2048) :
    ∑ k ∈ Finset.range n, row (iblk m c 0 t) l k
      = ∑ k ∈ Finset.range n, col (m (c.tc.loc main_arg0)) b l (2048 * (t.val % 2) + k) :=
  Finset.sum_congr rfl fun k hk => block_row m c t b hb l k (by have := Finset.mem_range.mp hk; omega)

/-- What an even point leaves: its block from a carry of zero, at row `j`; and, as the carry, the sum of the block. -/
theorem even_point (c : Dev nD) (t : Fin cfg0.N) (h0 : t.val % 2 = 0) (b : Fin 8) (hb : b.val = t.val / 2) (l : Fin 1024) :
    (∀ j : Fin 2048, (outsAt0 m c t.val t.isLt).1 (ix3 0 j l)
      = Ideal.div (∑ k ∈ Finset.range (j.val + 1), col (m (c.tc.loc main_arg0)) b l k) (((j.val + 1 : ℕ) : ℝ) : EReal))
    ∧ (outsAt0 m c t.val t.isLt).2 (ix2 0 l) = ∑ k ∈ Finset.range 2048, col (m (c.tc.loc main_arg0)) b l k := by
  rw [outsAt0_A m c t h0]
  constructor
  · intro j
    dsimp only
    rw [out_A, stores_apply _ (by rw [coord_one]; omega), reset_apply, zero_add,
      block_sum m c t b hb l _ (by omega), coord_one, h0]
    simp only [Nat.mul_zero, Nat.zero_add]
  · dsimp only
    rw [sout_A, carry_apply, reset_apply, zero_add, block_sum m c t b hb l _ (by omega), h0]
    simp only [Nat.mul_zero, Nat.zero_add]

/-- What an odd point leaves in its output block, at row `j`: it starts from the first half's sum. -/
theorem odd_point (c : Dev nD) (t : Fin cfg0.N) (h0 : ¬t.val % 2 = 0) (b : Fin 8) (hb : b.val = t.val / 2) (l : Fin 1024) (j : Fin 2048) :
    (outsAt0 m c t.val t.isLt).1 (ix3 0 j l)
      = Ideal.div (∑ k ∈ Finset.range (2048 + j.val + 1), col (m (c.tc.loc main_arg0)) b l k) (((2048 + j.val + 1 : ℕ) : ℝ) : EReal) := by
  have h1 : t.val % 2 = 1 := by omega
  have hlt : t.val - 1 < cfg0.N := Nat.lt_of_le_of_lt (Nat.sub_le _ _) t.isLt
  have hprev := (even_point m c ⟨t.val - 1, hlt⟩ (by dsimp only; omega) b (by dsimp only; omega) l).2
  rw [outsAt0_B m c t h0]
  dsimp only at hprev ⊢
  rw [out_B, stores_apply _ (by rw [coord_one]; omega), hprev, block_sum m c t b hb l _ (by omega), coord_one, h1]
  simp only [Nat.mul_one]
  rw [Nat.add_assoc 2048, ← Finset.sum_range_add (col (m (c.tc.loc main_arg0)) b l)]

/-- THE RESULT ARRAY: the sum of the argument's rows up to and including `s`, over `s + 1`. -/
theorem array_apply (c : Dev nD) (b : Fin 8) (s : Fin 4096) (l : Fin 1024) :
    G1 m c (ix3 b s l)
      = Ideal.div (∑ k ∈ Finset.range (s.val + 1), col (m (c.tc.loc main_arg0)) b l k) (((s.val + 1 : ℕ) : ℝ) : EReal) := by
  have hN : cfg0.N = 16 := N_0
  have hp : pt1Of (ix3 b s l) = 2 * b.val + s.val / 2048 := by
    show 2 * (b.val / 1 - 0) + 1 * (s.val / 2048 - 0) + 1 * (l.val / 1024 - 0) = _
    omega
  have ht : 2 * b.val + s.val / 2048 < cfg0.N := by omega
  have hl : loc1Of (ix3 b s l) = ix3 (0 : Fin 1) (⟨s.val % 2048, Nat.mod_lt _ (by decide)⟩ : Fin 2048) l := by
    funext a
    apply Fin.ext
    match a with
    | ⟨0, _⟩ => show b.val % 1 = 0; omega
    | ⟨1, _⟩ => rfl
    | ⟨2, _⟩ => show l.val % 1024 = l.val; omega
  unfold G1
  rw [dif_pos (by rw [hp]; exact ht), hl, fold0_congr m c _ _ _ (by omega) hp, ← outsAt0_sweep m c _ ht]
  by_cases h0 : (2 * b.val + s.val / 2048) % 2 = 0
  · refine ((even_point m c ⟨_, ht⟩ h0 b (by dsimp only; omega) l).1 _).trans ?_
    have e : s.val % 2048 = s.val := by omega
    simp only [e]
  · refine (odd_point m c ⟨_, ht⟩ h0 b (by dsimp only; omega) l _).trans ?_
    have e : 2048 + s.val % 2048 = s.val := by omega
    simp only [e]

end Cert.KernelIdeal.Array

end
-- ==== Proof.Reference.lean ====
/-
  What the reference computes.

  The reference's cumulative sum is printed as a sliding window sum: a window of 4096 rows over the array with 4095 rows
  of zeros put before it. The window that ends at row `s` holds `4095 - s` of those zeros and then the rows `0, …, s`,
  so its sum is the sum of the rows up to and including `s`. The reference divides it by `1 + s`.
-/
module

public import proofs.«01_k».proof.Proof.Gen.ReferenceIdeal.Run
public import Idealize.ShloMosaic.Lib.Pointwise
public import Idealize.ShloMosaic.Lib.WordCmp

@[expose] public section

noncomputable section

namespace Cert.ReferenceIdeal.Window

open Cert.ReferenceIdeal Cert.ReferenceIdeal.Gen Idealize.ShloMosaic Idealize.ShloMosaic.TcCoe Idealize.SL.Sem

/-- A left fold of additions is the start plus the sum. -/
theorem foldl_add {n : ℕ} (g : Fin n → EReal) (v : EReal) :
    (List.finRange n).foldl (fun r k => r + g k) v = v + ∑ k, g k := by
  rw [Fin.sum_univ_def]
  generalize List.finRange n = L
  induction L generalizing v with
  | nil => simp
  | cons a L ih => rw [List.foldl_cons, ih, List.map_cons, List.sum_cons, add_assoc]

/-- A window sum at an index: the initial value plus the sum over the window's positions, each the operand's element
    there or, in the padding, the initial value. -/
theorem windowSum_apply {s t : Shape} (window strides lo hi : Fin s.rank → Nat) (h : s.ReduceWindows window strides lo hi t)
    (x : s.Idx → EReal) (v : EReal) (j : t.Idx) :
    Ideal.hostReduceWindowAdd window strides lo hi h x v j
      = v + ∑ k : (⟨s.rank, window⟩ : Shape).Idx,
          if hin : ∀ a, lo a ≤ (j (a.cast h.1.symm)).val * strides a + (k a).val
              ∧ (j (a.cast h.1.symm)).val * strides a + (k a).val - lo a < s.size a
          then x (fun a => ⟨(j (a.cast h.1.symm)).val * strides a + (k a).val - lo a, (hin a).2⟩) else v := by
  refine (foldl_add _ _).trans (congrArg _ ?_)
  refine Eq.trans (Finset.sum_congr rfl fun n _ => ?_) (Equiv.sum_comp (M := EReal) (⟨s.rank, window⟩ : Shape).rowMajor.symm fun k =>
    if hin : ∀ a, lo a ≤ (j (a.cast h.1.symm)).val * strides a + (k a).val
        ∧ (j (a.cast h.1.symm)).val * strides a + (k a).val - lo a < s.size a
    then x (fun a => ⟨(j (a.cast h.1.symm)).val * strides a + (k a).val - lo a, (hin a).2⟩) else v)
  congr

/-- Column `l` of batch entry `b` at row `j`, and zero from the array's end on. -/
def col (x : FVec Ideal S8x4096x1024 .f32) (b : Fin 8) (l : Fin 1024) (j : ℕ) : EReal :=
  if h : j < 4096 then x (ix3 b ⟨j, h⟩ l) else 0

/-- The terms of a window over `p` rows of padding: the padding first, then the rows up to and including `s`. -/
theorem window_rows (f : ℕ → EReal) (p w s : ℕ) (hs : s ≤ p) (hw : w = p + 1) :
    (∑ k ∈ Finset.range w, if p ≤ s + k then f (s + k - p) else 0) = ∑ k ∈ Finset.range (s + 1), f k := by
  rw [show w = (p - s) + (s + 1) from by omega, Finset.sum_range_add, Finset.sum_eq_zero, zero_add]
  · refine Finset.sum_congr rfl fun k _ => ?_
    rw [if_pos (by omega)]
    exact congrArg f (by omega)
  · intro k hk
    have := Finset.mem_range.mp hk
    exact if_neg (by omega)

/-- The sliding window sum of 4096 rows over an array with `p = 4095` rows of padding put before it, at an index. -/
theorem window_apply (p : ℕ) (hp : p = 4095) (x : FVec Ideal S8x4096x1024 .f32)
    (h : S8x4096x1024.ReduceWindows ![1, 4096, 1] ![1, 1, 1] ![0, p, 0] ![0, 0, 0] S8x4096x1024)
    (b : Fin 8) (s : Fin 4096) (l : Fin 1024) :
    Ideal.hostReduceWindowAdd ![1, 4096, 1] ![1, 1, 1] ![0, p, 0] ![0, 0, 0] h x 0 (ix3 b s l)
      = ∑ k ∈ Finset.range (s.val + 1), col x b l k := by
  rw [windowSum_apply, zero_add]
  refine Eq.trans (sum_idx3 (n0 := 1) (n1 := 4096) (n2 := 1) _) ?_
  rw [Fin.sum_univ_one, ← window_rows (col x b l) p 4096 s.val (by omega) (by omega),
    ← Fin.sum_univ_eq_sum_range (fun k => if p ≤ s.val + k then col x b l (s.val + k - p) else 0) 4096]
  refine Finset.sum_congr rfl fun k _ => ?_
  rw [Fin.sum_univ_one]
  by_cases hk : p ≤ s.val + k.val
  · have hlt : s.val + k.val - p < 4096 := by omega
    rw [if_pos hk, col, dif_pos hlt]
    refine (dif_pos ?_).trans ?_
    · intro a
      match a with
      | ⟨0, _⟩ => exact ⟨Nat.zero_le _, by show b.val * 1 + 0 - 0 < 8; omega⟩
      | ⟨1, _⟩ => exact ⟨by show p ≤ s.val * 1 + k.val; omega, by show s.val * 1 + k.val - p < 4096; omega⟩
      | ⟨2, _⟩ => exact ⟨Nat.zero_le _, by show l.val * 1 + 0 - 0 < 1024; omega⟩
    · refine congrArg x (funext fun a => Fin.ext ?_)
      match a with
      | ⟨0, _⟩ => show b.val * 1 + 0 - 0 = b.val; omega
      | ⟨1, _⟩ => show s.val * 1 + k.val - p = s.val + k.val - p; omega
      | ⟨2, _⟩ => show l.val * 1 + 0 - 0 = l.val; omega
  · rw [if_neg hk]
    refine dif_neg fun hin => hk ?_
    have h1 : p ≤ s.val * 1 + k.val := (hin 1).1
    omega

/-- The count the reference divides by: the row's number counted from one. -/
theorem count_eq (s : Fin 4096) : (1 : EReal) + (((BitVec.ofNat 32 s.val).toInt : ℝ) : EReal) = (((s.val + 1 : ℕ) : ℝ) : EReal) := by
  rw [WordCmp.toInt_ofNat_of_lt (by omega), Int.cast_natCast, Nat.cast_add, Nat.cast_one, add_comm, EReal.coe_add, EReal.coe_one]

end Cert.ReferenceIdeal.Window

end
-- ==== Proof.Equation.lean ====
/-
  The equation: the kernel's result array is the reference's.

  Both sides are, at batch entry `b`, row `s` and column `l`, the sum of the argument's rows up to and including `s`
  divided by `s + 1`. Addition of extended reals is commutative and associative without exception, so the order of the
  additions does not matter and the argument may hold anything.
-/
module

public import proofs.«01_k».proof.Proof.Array
public import proofs.«01_k».proof.Proof.Reference

@[expose] public section

noncomputable section

namespace Cert.Equation

open Idealize.ShloMosaic Idealize.ShloMosaic.TcCoe Idealize.SL.Sem

section Term

open Cert.ReferenceIdeal Cert.ReferenceIdeal.Gen Cert.ReferenceIdeal.Window

/-- The reference's result as a function of its argument. -/
def refTerm (x : FVec Ideal S8x4096x1024 .f32) : FVec Ideal S8x4096x1024 .f32 :=
  Host.divf (Host.reduceWindowAdd ![1, 4096, 1] ![1, 1, 1] ![0, 4095, 0] ![0, 0, 0] x
      (broadcastInDim S_ ![] bcast_S_S_ (constant S_ .f32 0x00000000#32))
      reduceWindows_S8x4096x1024_S8x4096x1024_w1s1p0_0_w4096s1p4095_0_w1s1p0_0 h_S_)
    (broadcastInDim S8x4096x1024 ![0, 1, 2] bcast_S1x4096x1_S8x4096x1024_0_1_2
      (broadcastInDim S1x4096x1 ![1] bcast_S4096_S1x4096x1_1
        (addf (broadcastInDim S4096 ![] bcast_S_S4096 (constant S_ .f32 0x3F800000#32)) (sitofp .f32 (iotaInDim S4096 32 0)))))

/-- THE REFERENCE at an index: the sum of the rows up to and including `s`, over `s + 1`. -/
theorem refTerm_apply (x : FVec Ideal S8x4096x1024 .f32) (b : Fin 8) (s : Fin 4096) (l : Fin 1024) :
    refTerm x (ix3 b s l)
      = Ideal.div (∑ k ∈ Finset.range (s.val + 1), col x b l k) (((s.val + 1 : ℕ) : ℝ) : EReal) := by
  rw [← window_apply 4095 rfl x reduceWindows_S8x4096x1024_S8x4096x1024_w1s1p0_0_w4096s1p4095_0_w1s1p0_0 b s l, ← count_eq]
  unfold refTerm Host.reduceWindowAdd
  rw [Ideal.hostReduceWindowAdd_def]
  generalize hW : (Ideal.hostReduceWindowAdd ![1, 4096, 1] ![1, 1, 1] ![0, 4095, 0] ![0, 0, 0]
    reduceWindows_S8x4096x1024_S8x4096x1024_w1s1p0_0_w4096s1p4095_0_w1s1p0_0 x) = W
  pointwise
  rfl

end Term

/-- THE EQUATION: the kernel's result array is the reference's result on the same argument. -/
theorem array_eq_refTerm (m : (ℓ : Loc KernelIdeal.nD KernelIdeal.τ KernelIdeal.sig) → Buf (Elt Ideal) ℓ) (c : Dev KernelIdeal.nD) :
    KernelIdeal.Value.G1 m c = refTerm (m (c.tc.loc KernelIdeal.main_arg0)) := by
  funext i
  rw [eq_ix3 i]
  exact (KernelIdeal.Array.array_apply m c (i 0) (i 1) (i 2)).trans
    (refTerm_apply (m (c.tc.loc KernelIdeal.main_arg0)) (i 0) (i 1) (i 2)).symm

end Cert.Equation

end
-- ==== Proof.lean ====
/-
  The certificate, assembled.

  The frames of the two printed kernels come from their generated runs, the frame of the reference from its run. The two
  printed kernels are the same program text, so nothing had to be preserved across a rewriting. The value claim puts the
  kernel's run beside the reference's and closes by the equation of `Proof.Equation`.
-/
module

public import proofs.«01_k».proof.Defs
public import proofs.«01_k».proof.Proof.Gen.Kernel.Frame
public import proofs.«01_k».proof.Proof.Gen.KernelIdeal.Value
public import proofs.«01_k».proof.Proof.Gen.ReferenceIdeal.Run
public import Idealize.ShloMosaic.Adequacy
public import Idealize.ShloMosaic.Init
public import Idealize.ShloMosaic.Lib.Quiescent
public import proofs.«01_k».proof.Proof.Equation

@[expose] public section

noncomputable section

namespace Cert.Proof

open Idealize.ShloMosaic Idealize.SL.Sem

/-- The reference keeps its argument and ends with no semaphore raised: it declares none. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On equal arguments the kernel's result array is the reference's, over the extended reals. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  exact (Cert.Equation.array_eq_refTerm m c).symm

/-- All the claims together. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, quiescent_ReferenceIdeal, (trivial : preserves_Kernel_KernelIdeal), algebraic_KernelIdeal_ReferenceIdeal⟩

end Cert.Proof

end
